-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pe_is_sinusoidal [hPre_pe_is_sinusoidal : Cert.Pre_pe_is_sinusoidal.Facts] (m : (ℓ : Loc Cert.KernelIdeal.nD Cert.KernelIdeal.τ Cert.KernelIdeal.sig) → Buf (Elt Ideal) ℓ) : Prop :=
  ∀ c : Dev Cert.KernelIdeal.nD,
    (Cert.Pre_pe_is_sinusoidal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pe_is_sinusoidal [hPre_pe_is_sinusoidal : Cert.Pre_pe_is_sinusoidal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pe_is_sinusoidal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pe_is_sinusoidal [hKernelIdeal : Cert.KernelIdeal.Facts] [hPre_pe_is_sinusoidal : Cert.Pre_pe_is_sinusoidal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pe_is_sinusoidal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pe_is_sinusoidal [hReferenceIdeal : Cert.ReferenceIdeal.Facts] [hPre_pe_is_sinusoidal : Cert.Pre_pe_is_sinusoidal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pe_is_sinusoidal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_pe_is_sinusoidal [hKernelIdeal : Cert.KernelIdeal.Facts] [hReferenceIdeal : Cert.ReferenceIdeal.Facts] [hPre_pe_is_sinusoidal : Cert.Pre_pe_is_sinusoidal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pe_is_sinusoidal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_pe_is_sinusoidal : Cert.Pre_pe_is_sinusoidal.Facts),
    quiescent_Kernel (hKernel := hKernel)
    ∧ quiescent_KernelIdeal (hKernelIdeal := hKernelIdeal)
    ∧ quiescent_KernelIdeal_pre_pe_is_sinusoidal (hKernelIdeal := hKernelIdeal) (hPre_pe_is_sinusoidal := hPre_pe_is_sinusoidal)
    ∧ quiescent_ReferenceIdeal (hReferenceIdeal := hReferenceIdeal)
    ∧ quiescent_ReferenceIdeal_pre_pe_is_sinusoidal (hReferenceIdeal := hReferenceIdeal) (hPre_pe_is_sinusoidal := hPre_pe_is_sinusoidal)
    ∧ preserves_Kernel_KernelIdeal
    ∧ algebraic_KernelIdeal_ReferenceIdeal_pre_pe_is_sinusoidal (hKernelIdeal := hKernelIdeal) (hReferenceIdeal := hReferenceIdeal) (hPre_pe_is_sinusoidal := hPre_pe_is_sinusoidal)
-- ==== Pre_pe_is_sinusoidal.lean ====
abbrev S4096x4x1024 : Shape := ⟨3, ![4096, 4, 1024]⟩
abbrev S24x256 : Shape := ⟨2, ![24, 256]⟩
abbrev S7x256 : Shape := ⟨2, ![7, 256]⟩
abbrev S512x1024 : Shape := ⟨2, ![512, 1024]⟩
abbrev S1024 : Shape := ⟨1, ![1024]⟩
abbrev S8192x1x1024 : Shape := ⟨3, ![8192, 1, 1024]⟩
abbrev S4x4096 : Shape := ⟨2, ![4, 4096]⟩
abbrev S4096x1x1024 : Shape := ⟨3, ![4096, 1, 1024]⟩
abbrev S_ : Shape := ⟨0, ![]⟩

class Facts : Prop where
  slices_S8192x1x1024_S4096x1x1024_0_0_0 : S8192x1x1024.Slices ![0, 0, 0] S4096x1x1024
  bcast_S_S4096x1x1024 : S_.BroadcastsInDim S4096x1x1024 (![] : Fin 0 → Fin S4096x1x1024.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S4096x1x1024 32) (arg1 : IVec S_ 32) : IVec S4096x1x1024 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S4096x1x1024 32 := broadcastInDim S4096x1x1024 ![] bcast_S_S4096x1x1024 v2
  let v4 : IVec S4096x1x1024 32 := Host.remsi arg0 v3
  let c_1 : IVec S_ 32 := constantI S_ 32 0#32
  let v5 : IVec S4096x1x1024 32 := broadcastInDim S4096x1x1024 ![] bcast_S_S4096x1x1024 c_1
  let v6 : IVec S4096x1x1024 1 := cmpi .ne v4 v5
  let c_2 : IVec S_ 32 := constantI S_ 32 0#32
  let v7 : IVec S4096x1x1024 32 := broadcastInDim S4096x1x1024 ![] bcast_S_S4096x1x1024 c_2
  let v8 : IVec S4096x1x1024 1 := cmpi .slt v4 v7
  let c_3 : IVec S_ 32 := constantI S_ 32 0#32
  let v9 : IVec S_ 1 := cmpi .slt v2 c_3
  let v10 : IVec S4096x1x1024 1 := broadcastInDim S4096x1x1024 ![] bcast_S_S4096x1x1024 v9
  let v11 : IVec S4096x1x1024 1 := cmpi .ne v8 v10
  let v12 : IVec S4096x1x1024 1 := andi v11 v6
  let v13 : IVec S4096x1x1024 32 := broadcastInDim S4096x1x1024 ![] bcast_S_S4096x1x1024 v2
  let v14 : IVec S4096x1x1024 32 := addi v4 v13
  let v15 : IVec S4096x1x1024 32 := select v12 v14 v4
  v15

def fn_where_0 {F : FTy → Type} [FloatOps F] (arg0 : IVec S4096x1x1024 1) (arg1 : FVec F S4096x1x1024 .f32) (arg2 : FVec F S4096x1x1024 .f32) : FVec F S4096x1x1024 .f32 :=
  let v0 : FVec F S4096x1x1024 .f32 := select arg0 arg1 arg2
  v0

def fn {F : FTy → Type} [FloatOps F] (main_arg0 : FVec F S4096x4x1024 .f32) (main_arg1 : FVec F S24x256 .f32) (main_arg2 : FVec F S7x256 .f32) (main_arg3 : FVec F S512x1024 .f32) (main_arg4 : FVec F S1024 .f32) (main_arg5 : FVec F S8192x1x1024 .f32) (main_arg6 : IVec S4x4096 32) : IVec S4096x1x1024 1 :=
  let main_v0 : FVec F S4096x1x1024 .f32 := (extractStridedSlice S4096x1x1024 ![0, 0, 0] · slices_S8192x1x1024_S4096x1x1024_0_0_0) main_arg5
  let main_v1 : IVec S4096x1x1024 32 := iotaInDim S4096x1x1024 32 0
  let main_v2 : FVec F S4096x1x1024 .f32 := sitofp .f32 main_v1
  let main_v3 : IVec S4096x1x1024 32 := iotaInDim S4096x1x1024 32 2
  let main_c : IVec S_ 32 := constantI S_ 32 2#32
  let main_v4 : IVec S4096x1x1024 32 := fn_remainder (F := F) main_v3 main_c
  let main_v5 : IVec S4096x1x1024 32 := subi main_v3 main_v4
  let main_v6 : FVec F S4096x1x1024 .f32 := sitofp .f32 main_v5
  let main_cst : FVec F S_ .f32 := constant S_ .f32 0xBC135D8E#32
  let main_v7 : FVec F S4096x1x1024 .f32 := broadcastInDim S4096x1x1024 ![] bcast_S_S4096x1x1024 main_cst
  let main_v8 : FVec F S4096x1x1024 .f32 := mulf main_v6 main_v7
  let main_v9 : FVec F S4096x1x1024 .f32 := Host.exp main_v8
  let main_v10 : FVec F S4096x1x1024 .f32 := mulf main_v2 main_v9
  let main_c_0 : IVec S_ 32 := constantI S_ 32 2#32
  let main_v11 : IVec S4096x1x1024 32 := fn_remainder (F := F) main_v3 main_c_0
  let main_c_1 : IVec S_ 32 := constantI S_ 32 0#32
  let main_v12 : IVec S4096x1x1024 32 := broadcastInDim S4096x1x1024 ![] bcast_S_S4096x1x1024 main_c_1
  let main_v13 : IVec S4096x1x1024 1 := cmpi .eq main_v11 main_v12
  let main_v14 : FVec F S4096x1x1024 .f32 := Host.sin main_v10
  let main_v15 : FVec F S4096x1x1024 .f32 := Host.cos main_v10
  let main_v16 : FVec F S4096x1x1024 .f32 := fn_where_0 (F := F) main_v13 main_v14 main_v15
  let main_v17 : IVec S4096x1x1024 1 := cmpf .oeq main_v0 main_v16
  main_v17
-- ==== Kernel.lean ====
abbrev S4096x4x1024 : Shape := ⟨3, ![4096, 4, 1024]⟩
abbrev S24x256 : Shape := ⟨2, ![24, 256]⟩
abbrev S7x256 : Shape := ⟨2, ![7, 256]⟩
abbrev S512x1024 : Shape := ⟨2, ![512, 1024]⟩
abbrev S1024 : Shape := ⟨1, ![1024]⟩
abbrev S8192x1x1024 : Shape := ⟨3, ![8192, 1, 1024]⟩
abbrev S4x4096 : Shape := ⟨2, ![4, 4096]⟩
abbrev S1x1024 : Shape := ⟨2, ![1, 1024]⟩
abbrev S512x1x1024 : Shape := ⟨3, ![512, 1, 1024]⟩
abbrev S4x512 : Shape := ⟨2, ![4, 512]⟩
abbrev S512x4x1024 : Shape := ⟨3, ![512, 4, 1024]⟩
abbrev S256x1024 : Shape := ⟨2, ![256, 1024]⟩
abbrev S24x1024 : Shape := ⟨2, ![24, 1024]⟩
abbrev S7x1024 : Shape := ⟨2, ![7, 1024]⟩
abbrev S31x1024 : Shape := ⟨2, ![31, 1024]⟩
abbrev S512x1023 : Shape := ⟨2, ![512, 1023]⟩
abbrev S512x1 : Shape := ⟨2, ![512, 1]⟩
abbrev S31x512 : Shape := ⟨2, ![31, 512]⟩
abbrev S1x512 : Shape := ⟨2, ![1, 512]⟩

abbrev nBuf : Space → Nat
  | .hbm => 10
  | .vmem => 13
  | .smem => 0
  | _ => 0

abbrev bufTy : (tb : Table) → Fin (tcTables nBuf tb) → BufTy
  | .hbm, ⟨0, _⟩ => ⟨S4096x4x1024, .f32⟩
  | .hbm, ⟨1, _⟩ => ⟨S24x256, .f32⟩
  | .hbm, ⟨2, _⟩ => ⟨S7x256, .f32⟩
  | .hbm, ⟨3, _⟩ => ⟨S512x1024, .f32⟩
  | .hbm, ⟨4, _⟩ => ⟨S1024, .f32⟩
  | .hbm, ⟨5, _⟩ => ⟨S8192x1x1024, .f32⟩
  | .hbm, ⟨6, _⟩ => ⟨S4x4096, .i32⟩
  | .hbm, ⟨7, _⟩ => ⟨S1x1024, .f32⟩
  | .hbm, ⟨8, _⟩ => ⟨S512x1x1024, .f32⟩
  | .hbm, ⟨9, _⟩ => ⟨S4096x4x1024, .f32⟩
  | .local _ .vmem, ⟨0, _⟩ => ⟨S4x512, .i32⟩
  | .local _ .vmem, ⟨1, _⟩ => ⟨S4x512, .i32⟩
  | .local _ .vmem, ⟨2, _⟩ => ⟨S512x4x1024, .f32⟩
  | .local _ .vmem, ⟨3, _⟩ => ⟨S512x4x1024, .f32⟩
  | .local _ .vmem, ⟨4, _⟩ => ⟨S512x1x1024, .f32⟩
  | .local _ .vmem, ⟨5, _⟩ => ⟨S24x256, .f32⟩
  | .local _ .vmem, ⟨6, _⟩ => ⟨S7x256, .f32⟩
  | .local _ .vmem, ⟨7, _⟩ => ⟨S512x1024, .f32⟩
  | .local _ .vmem, ⟨8, _⟩ => ⟨S1x1024, .f32⟩
  | .local _ .vmem, ⟨9, _⟩ => ⟨S512x4x1024, .f32⟩
  | .local _ .vmem, ⟨10, _⟩ => ⟨S512x4x1024, .f32⟩
  | .local _ .vmem, ⟨11, _⟩ => ⟨S512x1024, .f32⟩
  | .local _ .vmem, ⟨12, _⟩ => ⟨S512x1024, .f32⟩
  | _, _ => ⟨S4096x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x4x1024 : Shape := ⟨3, ![4096, 4, 1024]⟩
abbrev S24x256 : Shape := ⟨2, ![24, 256]⟩
abbrev S7x256 : Shape := ⟨2, ![7, 256]⟩
abbrev S512x1024 : Shape := ⟨2, ![512, 1024]⟩
abbrev S1024 : Shape := ⟨1, ![1024]⟩
abbrev S8192x1x1024 : Shape := ⟨3, ![8192, 1, 1024]⟩
abbrev S4x4096 : Shape := ⟨2, ![4, 4096]⟩
abbrev S4096x1x1024 : Shape := ⟨3, ![4096, 1, 1024]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x256 : Shape := ⟨3, ![4, 4096, 256]⟩
abbrev S4x4096x512 : Shape := ⟨3, ![4, 4096, 512]⟩
abbrev S4x4096x1024 : Shape := ⟨3, ![4, 4096, 1024]⟩
abbrev S1x1x1024 : Shape := ⟨3, ![1, 1, 1024]⟩

abbrev nBuf : Space → Nat
  | .hbm => 146
  | .vmem => 0
  | .smem => 0
  | _ => 0

abbrev hbmTy0_0 (i : Nat) : BufTy := match i % 128 with
  | 0 => ⟨S4096x4x1024, .f32⟩
  | 1 => ⟨S24x256, .f32⟩
  | 2 => ⟨S7x256, .f32⟩
  | 3 => ⟨S512x1024, .f32⟩
  | 4 => ⟨S1024, .f32⟩
  | 5 => ⟨S8192x1x1024, .f32⟩
  | 6 => ⟨S4x4096, .i32⟩
  | 7 => ⟨S4096x1x1024, .f32⟩
  | 8 => ⟨S_, .i32⟩
  | 9 => ⟨S_, .i32⟩
  | 10 => ⟨S4x4096, .i32⟩
  | 11 => ⟨S4x4096, .i32⟩
  | 12 => ⟨S4x4096, .i32⟩
  | 13 => ⟨S_, .i32⟩
  | 14 => ⟨S4x4096, .i32⟩
  | 15 => ⟨S4x4096, .i1⟩
  | 16 => ⟨S4x4096, .i32⟩
  | 17 => ⟨S4x4096, .i32⟩
  | 18 => ⟨S_, .i32⟩
  | 19 => ⟨S4x4096, .i32⟩
  | 20 => ⟨S4x4096, .i1⟩
  | 21 => ⟨S4x4096, .i1⟩
  | 22 => ⟨S_, .i32⟩
  | 23 => ⟨S4x4096, .i32⟩
  | 24 => ⟨S4x4096, .i32⟩
  | 25 => ⟨S4x4096, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S4x4096, .i32⟩
  | 33 => ⟨S4x4096, .i32⟩
  | 34 => ⟨S_, .i32⟩
  | 35 => ⟨S4x4096, .i32⟩
  | 36 => ⟨S4x4096, .i1⟩
  | 37 => ⟨S_, .i32⟩
  | 38 => ⟨S4x4096, .i32⟩
  | 39 => ⟨S4x4096, .i1⟩
  | 40 => ⟨S_, .i32⟩
  | 41 => ⟨S_, .i1⟩
  | 42 => ⟨S4x4096, .i1⟩
  | 43 => ⟨S4x4096, .i1⟩
  | 44 => ⟨S4x4096, .i1⟩
  | 45 => ⟨S4x4096, .i32⟩
  | 46 => ⟨S4x4096, .i32⟩
  | 47 => ⟨S4x4096, .i32⟩
  | 48 => ⟨S_, .i32⟩
  | 49 => ⟨S_, .i32⟩
  | 50 => ⟨S4x4096, .i32⟩
  | 51 => ⟨S4x4096, .i32⟩
  | 52 => ⟨S4x4096, .i32⟩
  | 53 => ⟨S_, .i32⟩
  | 54 => ⟨S4x4096, .i32⟩
  | 55 => ⟨S4x4096, .i1⟩
  | 56 => ⟨S4x4096, .i32⟩
  | 57 => ⟨S4x4096, .i32⟩
  | 58 => ⟨S_, .i32⟩
  | 59 => ⟨S4x4096, .i32⟩
  | 60 => ⟨S4x4096, .i1⟩
  | 61 => ⟨S4x4096, .i1⟩
  | 62 => ⟨S_, .i32⟩
  | 63 => ⟨S4x4096, .i32⟩
  | 64 => ⟨S4x4096, .i32⟩
  | 65 => ⟨S4x4096, .i32⟩
  | 66 => ⟨S_, .i32⟩
  | 67 => ⟨S4x4096, .i32⟩
  | 68 => ⟨S4x4096, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S4x4096, .i32⟩
  | 76 => ⟨S4x4096, .i32⟩
  | 77 => ⟨S_, .i32⟩
  | 78 => ⟨S4x4096, .i32⟩
  | 79 => ⟨S4x4096, .i1⟩
  | 80 => ⟨S_, .i32⟩
  | 81 => ⟨S4x4096, .i32⟩
  | 82 => ⟨S4x4096, .i1⟩
  | 83 => ⟨S_, .i32⟩
  | 84 => ⟨S_, .i1⟩
  | 85 => ⟨S4x4096, .i1⟩
  | 86 => ⟨S4x4096, .i1⟩
  | 87 => ⟨S4x4096, .i1⟩
  | 88 => ⟨S4x4096, .i32⟩
  | 89 => ⟨S4x4096, .i32⟩
  | 90 => ⟨S4x4096, .i32⟩
  | 91 => ⟨S_, .i32⟩
  | 92 => ⟨S4x4096, .i32⟩
  | 93 => ⟨S4x4096, .i1⟩
  | 94 => ⟨S_, .i32⟩
  | 95 => ⟨S4x4096, .i32⟩
  | 96 => ⟨S4x4096, .i32⟩
  | 97 => ⟨S4x4096, .i32⟩
  | 98 => ⟨S4x4096x1, .i32⟩
  | 99 => ⟨S1, .i32⟩
  | 100 => ⟨S_, .i32⟩
  | 101 => ⟨S4x4096x1, .i32⟩
  | 102 => ⟨S4x4096x1, .i1⟩
  | 103 => ⟨S1x1x1, .i32⟩
  | 104 => ⟨S4x4096x1, .i32⟩
  | 105 => ⟨S4x4096x1, .i1⟩
  | 106 => ⟨S4x4096x1, .i1⟩
  | 107 => ⟨S_, .i1⟩
  | 108 => ⟨S4x4096, .i1⟩
  | 109 => ⟨S4x4096x256, .f32⟩
  | 110 => ⟨S4x4096x256, .i1⟩
  | 111 => ⟨S_, .f32⟩
  | 112 => ⟨S4x4096x256, .f32⟩
  | 113 => ⟨S4x4096x256, .f32⟩
  | 114 => ⟨S_, .i32⟩
  | 115 => ⟨S4x4096, .i32⟩
  | 116 => ⟨S4x4096, .i1⟩
  | 117 => ⟨S_, .i32⟩
  | 118 => ⟨S4x4096, .i32⟩
  | 119 => ⟨S4x4096, .i32⟩
  | 120 => ⟨S4x4096, .i32⟩
  | 121 => ⟨S4x4096x1, .i32⟩
  | 122 => ⟨S1, .i32⟩
  | 123 => ⟨S_, .i32⟩
  | 124 => ⟨S4x4096x1, .i32⟩
  | 125 => ⟨S4x4096x1, .i1⟩
  | 126 => ⟨S1x1x1, .i32⟩
  | 127 => ⟨S4x4096x1, .i32⟩
  | _ => ⟨S4096x4x1024, .f32⟩

abbrev hbmTy0_1 (i : Nat) : BufTy := match i % 128 with
  | 0 => ⟨S4x4096x1, .i1⟩
  | 1 => ⟨S4x4096x1, .i1⟩
  | 2 => ⟨S_, .i1⟩
  | 3 => ⟨S4x4096, .i1⟩
  | 4 => ⟨S4x4096x256, .f32⟩
  | 5 => ⟨S4x4096x256, .i1⟩
  | 6 => ⟨S_, .f32⟩
  | 7 => ⟨S4x4096x256, .f32⟩
  | 8 => ⟨S4x4096x256, .f32⟩
  | 9 => ⟨S4x4096x512, .f32⟩
  | 10 => ⟨S4x4096x1024, .f32⟩
  | 11 => ⟨S1x1x1024, .f32⟩
  | 12 => ⟨S4x4096x1024, .f32⟩
  | 13 => ⟨S4x4096x1024, .f32⟩
  | 14 => ⟨S4096x4x1024, .f32⟩
  | 15 => ⟨S4096x4x1024, .f32⟩
  | 16 => ⟨S4096x4x1024, .f32⟩
  | 17 => ⟨S4096x4x1024, .f32⟩
  | _ => ⟨S4096x4x1024, .f32⟩

abbrev hbmTy (i : Nat) : BufTy := match i / 128 with
  | 0 => hbmTy0_0 i
  | 1 => hbmTy0_1 i
  | _ => ⟨S4096x4x1024, .f32⟩

abbrev bufTy : (tb : Table) → Fin (tcTables nBuf tb) → BufTy
  | .hbm, ⟨i, _⟩ => hbmTy i
  | _, _ => ⟨S4096x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v2 : Ref sig .tc := ⟨.hbm, 47, rfl⟩
abbrev main_c_1 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_c : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_0 : Ref sig .tc := ⟨.hbm, 62, rfl⟩
abbrev main_call2_v12 : Ref sig .tc := ⟨.hbm, 63, rfl⟩
abbrev main_call2_v13 : Ref sig .tc := ⟨.hbm, 64, rfl⟩
abbrev main_v3 : Ref sig .tc := ⟨.hbm, 65, rfl⟩
abbrev main_c_2 : Ref sig .tc := ⟨.hbm, 66, rfl⟩
abbrev main_v4 : Ref sig .tc := ⟨.hbm, 67, rfl⟩
abbrev main_v5 : Ref sig .tc := ⟨.hbm, 68, rfl⟩
abbrev main_c_3 : Ref sig .tc := ⟨.hbm, 69, rfl⟩
abbrev main_call3_v0 : Ref sig .tc := ⟨.hbm, 70, rfl⟩
abbrev main_call3_c : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_c_1 : Ref sig .tc := ⟨.hbm, 77, rfl⟩
abbrev main_call3_v5 : Ref sig .tc := ⟨.hbm, 78, rfl⟩
abbrev main_call3_v6 : Ref sig .tc := ⟨.hbm, 79, rfl⟩
abbrev main_call3_c_2 : Ref sig .tc := ⟨.hbm, 80, rfl⟩
abbrev main_call3_v7 : Ref sig .tc := ⟨.hbm, 81, rfl⟩
abbrev main_call3_v8 : Ref sig .tc := ⟨.hbm, 82, rfl⟩
abbrev main_call3_c_3 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_v12 : Ref sig .tc := ⟨.hbm, 87, rfl⟩
abbrev main_call3_v13 : Ref sig .tc := ⟨.hbm, 88, rfl⟩
abbrev main_call3_v14 : Ref sig .tc := ⟨.hbm, 89, rfl⟩
abbrev main_v6 : Ref sig .tc := ⟨.hbm, 90, rfl⟩
abbrev main_call4_c : Ref sig .tc := ⟨.hbm, 91, rfl⟩
abbrev main_call4_v0 : Ref sig .tc := ⟨.hbm, 92, rfl⟩
abbrev main_call4_v1 : Ref sig .tc := ⟨.hbm, 93, rfl⟩
abbrev main_call4_c_0 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_c_1 : Ref sig .tc := ⟨.hbm, 99, rfl⟩
abbrev main_call4_c_2 : Ref sig .tc := ⟨.hbm, 100, rfl⟩
abbrev main_call4_v6 : Ref sig .tc := ⟨.hbm, 101, rfl⟩
abbrev main_call4_v7 : Ref sig .tc := ⟨.hbm, 102, rfl⟩
abbrev main_call4_v8 : Ref sig .tc := ⟨.hbm, 103, rfl⟩
abbrev main_call4_v9 : Ref sig .tc := ⟨.hbm, 104, rfl⟩
abbrev main_call4_v10 : Ref sig .tc := ⟨.hbm, 105, rfl⟩
abbrev main_call4_v11 : Ref sig .tc := ⟨.hbm, 106, rfl⟩
abbrev main_call4_c_3 : Ref sig .tc := ⟨.hbm, 107, rfl⟩
abbrev main_call4_v12 : Ref sig .tc := ⟨.hbm, 108, rfl⟩
abbrev main_call4_v13 : Ref sig .tc := ⟨.hbm, 109, rfl⟩
abbrev main_call4_v14 : Ref sig .tc := ⟨.hbm, 110, rfl⟩
abbrev main_call4_cst : Ref sig .tc := ⟨.hbm, 111, rfl⟩
abbrev main_call4_v15 : Ref sig .tc := ⟨.hbm, 112, rfl⟩
abbrev main_v7 : Ref sig .tc := ⟨.hbm, 113, rfl⟩
abbrev main_call5_c : Ref sig .tc := ⟨.hbm, 114, rfl⟩
abbrev main_call5_v0 : Ref sig .tc := ⟨.hbm, 115, rfl⟩
abbrev main_call5_v1 : Ref sig .tc := ⟨.hbm, 116, rfl⟩
abbrev main_call5_c_0 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_call5_v5 : Ref sig .tc := ⟨.hbm, 121, rfl⟩
abbrev main_call5_c_1 : Ref sig .tc := ⟨.hbm, 122, rfl⟩
abbrev main_call5_c_2 : Ref sig .tc := ⟨.hbm, 123, rfl⟩
abbrev main_call5_v6 : Ref sig .tc := ⟨.hbm, 124, rfl⟩
abbrev main_call5_v7 : Ref sig .tc := ⟨.hbm, 125, rfl⟩
abbrev main_call5_v8 : Ref sig .tc := ⟨.hbm, 126, rfl⟩
abbrev main_call5_v9 : Ref sig .tc := ⟨.hbm, 127, rfl⟩
abbrev main_call5_v10 : Ref sig .tc := ⟨.hbm, 128, rfl⟩
abbrev main_call5_v11 : Ref sig .tc := ⟨.hbm, 129, rfl⟩
abbrev main_call5_c_3 : Ref sig .tc := ⟨.hbm, 130, rfl⟩
abbrev main_call5_v12 : Ref sig .tc := ⟨.hbm, 131, rfl⟩
abbrev main_call5_v13 : Ref sig .tc := ⟨.hbm, 132, rfl⟩
abbrev main_call5_v14 : Ref sig .tc := ⟨.hbm, 133, rfl⟩
abbrev main_call5_cst : Ref sig .tc := ⟨.hbm, 134, rfl⟩
abbrev main_call5_v15 : Ref sig .tc := ⟨.hbm, 135, rfl⟩
abbrev main_v8 : Ref sig .tc := ⟨.hbm, 136, rfl⟩
abbrev main_v9 : Ref sig .tc := ⟨.hbm, 137, rfl⟩
abbrev main_v10 : Ref sig .tc := ⟨.hbm, 138, rfl⟩
abbrev main_v11 : Ref sig .tc := ⟨.hbm, 139, rfl⟩
abbrev main_v12 : Ref sig .tc := ⟨.hbm, 140, rfl⟩
abbrev main_v13 : Ref sig .tc := ⟨.hbm, 141, rfl⟩
abbrev main_v14 : Ref sig .tc := ⟨.hbm, 142, rfl⟩
abbrev main_v15 : Ref sig .tc := ⟨.hbm, 143, rfl⟩
abbrev main_v16 : Ref sig .tc := ⟨.hbm, 144, rfl⟩
abbrev main_v17 : Ref sig .tc := ⟨.hbm, 145, rfl⟩

abbrev nD : Nat := 1
abbrev τ : Topo := Topo.v7x

variable {F : FTy → Type} [FloatOps F]
-- ==== Proof.Words.lean ====
/-
  Times as words. The hour of the day is `(w / 3600) % 24` and the day of the week is `(w / 86400 + 3) % 7`, both
  with the floored quotient and the remainder of the divisor's sign, over the time `w` read as a signed integer.
  A program computes each from the quotient rounded toward zero and the remainder of the dividend's sign, corrected
  by a select; here the corrected words are shown to be the floored ones, for every time, on any arithmetic unit.
-/
module

public import Idealize.ShloMosaic.Lib.Affine
public import Idealize.ShloMosaic.Lib.WordCmp
public import Idealize.ShloMosaic.Lib.Pointwise

@[expose] public section

noncomputable section

namespace Cert.Proof.Words

open Idealize.ShloMosaic

/-- The quotient as a program writes it: the truncated quotient, less one where the signs differ (`c`) and the
    division is inexact. -/
def floorWord (u : ArithUnit) (c : BitVec 1) (x n : BitVec 32) : BitVec 32 :=
  Scalar.select (IntOp.andi c (IntOp.cmpi .ne (IntOp.remsi u x n) 0#32)) (IntOp.subi (IntOp.divsi u x n) 1#32) (IntOp.divsi u x n)

/-- The remainder as a program writes it: the truncated remainder, plus the divisor where it is negative. -/
def modWord (u : ArithUnit) (x n : BitVec 32) : BitVec 32 :=
  Scalar.select (IntOp.andi (IntOp.cmpi .ne (IntOp.cmpi .slt (IntOp.remsi u x n) 0#32) (IntOp.cmpi .slt n 0#32)) (IntOp.cmpi .ne (IntOp.remsi u x n) 0#32))
    (IntOp.addi (IntOp.remsi u x n) n) (IntOp.remsi u x n)

/-- By a positive divisor, signed division is the truncated quotient. -/
theorem divsi_of_pos (u : ArithUnit) {x n : BitVec 32} (hn : 0 < n.toInt) : IntOp.divsi u x n = x.sdiv n :=
  if_neg (IntOp.not_corner_of_pos hn)

/-- The bit of a truth value is one where it holds. -/
theorem ofBool_iff (b : Bool) : BitVec.ofBool b = 1#1 ↔ b = true := by cases b <;> decide

/-- A select on a bit that says `p` is the choice by `p`. -/
theorem select_iff {α : Type} {p : Prop} [Decidable p] {c : BitVec 1} (hc : c = 1#1 ↔ p) (a b : α) :
    Scalar.select c a b = if p then a else b := by
  unfold Scalar.select; exact if_congr hc rfl rfl

/-- The corrected quotient by a divisor of at least two is the floored quotient, where `c` says that the dividend is
    not positive. -/
theorem toInt_floorWord (u : ArithUnit) (c : BitVec 1) (x n : BitVec 32) (hn : 1 < n.toInt) (hc : c = 1#1 ↔ ¬0 < x.toInt) :
    (floorWord u c x n).toInt = x.toInt / n.toInt := by
  have hx := BitVec.le_toInt x
  have hx' := BitVec.toInt_lt (x := x)
  have hq : (x.sdiv n).toInt = x.toInt.tdiv n.toInt :=
    BitVec.toInt_sdiv_of_ne_or_ne x n (Or.inr fun h => by rw [h] at hn; revert hn; decide)
  have hr : x.srem n = 0#32 ↔ n.toInt ∣ x.toInt := by
    rw [← BitVec.toInt_inj, BitVec.toInt_srem, BitVec.toInt_zero, ← Int.dvd_iff_tmod_eq_zero]
  have hb : IntOp.andi c (IntOp.cmpi .ne (IntOp.remsi u x n) 0#32) = 1#1 ↔ ¬(0 ≤ x.toInt ∨ n.toInt ∣ x.toInt) := by
    rw [IntOp.andi_eq_one, hc, IntOp.cmpi_ne, IntOp.remsi_of_pos u (by omega), Ne, hr]
    have h0 : x.toInt = 0 → n.toInt ∣ x.toInt := fun h => h ▸ dvd_zero _
    constructor
    · rintro ⟨h1, h2⟩; rintro (h | h); exacts [h2 (h0 (by omega)), h2 h]
    · intro h; exact ⟨fun h' => h (Or.inl (by omega)), fun h' => h (Or.inr h')⟩
  have hq' := hq
  rw [Int.tdiv_eq_ediv, Int.sign_eq_one_of_pos (by omega)] at hq'
  have hlo : -(2 ^ 30) ≤ x.toInt / n.toInt := by
    rw [Int.le_ediv_iff_mul_le (by omega)]
    norm_num at hx
    nlinarith
  unfold floorWord
  rw [select_iff hb, divsi_of_pos u (by omega)]
  by_cases h : 0 ≤ x.toInt ∨ n.toInt ∣ x.toInt
  · rw [if_neg (not_not.2 h), hq', if_pos h, Int.add_zero]
  · have hneg : x.toInt / n.toInt < 0 := Int.ediv_neg_of_neg_of_pos (by omega) (by omega)
    rw [if_pos h]
    show (x.sdiv n - 1#32).toInt = _
    rw [BitVec.toInt_sub, hq', if_neg h, show (1#32 : BitVec 32).toInt = 1 from rfl, Int.add_sub_cancel]
    exact Int.bmod_eq_of_le (by omega) (by omega)

/-- The corrected remainder by a positive divisor is the remainder of the divisor's sign. -/
theorem toInt_modWord (u : ArithUnit) (x n : BitVec 32) (hn : 0 < n.toInt) : (modWord u x n).toInt = x.toInt % n.toInt := by
  have hr : (x.srem n).toInt = x.toInt.tmod n.toInt := BitVec.toInt_srem x n
  rw [Int.tmod_eq_emod] at hr
  have h0 := Int.emod_nonneg x.toInt (b := n.toInt) (by omega)
  have h1 := Int.emod_lt_of_pos x.toInt hn
  have hn' := BitVec.toInt_lt (x := n)
  have hb : IntOp.andi (IntOp.cmpi .ne (IntOp.cmpi .slt (IntOp.remsi u x n) 0#32) (IntOp.cmpi .slt n 0#32)) (IntOp.cmpi .ne (IntOp.remsi u x n) 0#32) = 1#1
      ↔ (x.srem n).toInt < 0 := by
    have e : IntOp.cmpi .slt n 0#32 = 0#1 := by
      have : ¬IntOp.cmpi .slt n 0#32 = 1#1 := by rw [IntOp.cmpi_slt, BitVec.toInt_zero]; omega
      revert this; generalize IntOp.cmpi .slt n 0#32 = b; revert b; decide
    rw [IntOp.andi_eq_one, IntOp.cmpi_ne, IntOp.cmpi_ne, IntOp.remsi_of_pos u hn, e]
    have h0' : x.srem n = 0#32 ↔ (x.srem n).toInt = 0 := by rw [← BitVec.toInt_inj, BitVec.toInt_zero]
    have : IntOp.cmpi .slt (x.srem n) 0#32 ≠ 0#1 ↔ IntOp.cmpi .slt (x.srem n) 0#32 = 1#1 := by
      generalize IntOp.cmpi .slt (x.srem n) 0#32 = b; revert b; decide
    rw [this, IntOp.cmpi_slt, BitVec.toInt_zero, Ne, h0']
    omega
  unfold modWord
  rw [select_iff hb, IntOp.remsi_of_pos u hn]
  have hc : ((x.srem n).toInt < 0 → (x.srem n).toInt + n.toInt = x.toInt % n.toInt) ∧ (¬(x.srem n).toInt < 0 → (x.srem n).toInt = x.toInt % n.toInt) := by
    split_ifs at hr with h <;> omega
  split_ifs with h
  · show (x.srem n + n).toInt = _
    rw [BitVec.toInt_add, hc.1 h]
    exact Int.bmod_eq_of_le (by omega) (by omega)
  · exact hc.2 h

/-- The hour of the day at a time. -/
def hourOf (w : BitVec 32) : Fin 24 := ⟨((w.toInt / 3600) % 24).toNat, by omega⟩

/-- The day of the week at a time. -/
def dayOf (w : BitVec 32) : Fin 7 := ⟨((w.toInt / 86400 + 3) % 7).toNat, by omega⟩

/-- The hour as a program computes it is the hour of the day. -/
theorem hour_word (u : ArithUnit) (c : BitVec 1) (w : BitVec 32) (hc : c = 1#1 ↔ ¬0 < w.toInt) :
    modWord u (floorWord u c w 3600#32) 24#32 = BitVec.ofNat 32 (hourOf w).val := by
  apply BitVec.eq_of_toInt_eq
  rw [toInt_modWord u _ _ (by decide), toInt_floorWord u c _ _ (by decide) hc, show (24#32).toInt = 24 from rfl, show (3600#32).toInt = 3600 from rfl,
    WordCmp.toInt_ofNat_of_lt (w := 32) (by have := (hourOf w).isLt; omega)]
  simp only [hourOf]; omega

/-- The day as a program computes it is the day of the week. -/
theorem day_word (u : ArithUnit) (c : BitVec 1) (w : BitVec 32) (hc : c = 1#1 ↔ ¬0 < w.toInt) :
    modWord u (IntOp.addi (floorWord u c w 86400#32) 3#32) 7#32 = BitVec.ofNat 32 (dayOf w).val := by
  have hw := BitVec.le_toInt w
  have hw' := BitVec.toInt_lt (x := w)
  apply BitVec.eq_of_toInt_eq
  rw [toInt_modWord u _ _ (by decide), show ∀ a b : BitVec 32, IntOp.addi a b = a + b from fun _ _ => rfl, BitVec.toInt_add, toInt_floorWord u c _ _ (by decide) hc, show (7#32).toInt = 7 from rfl,
    show (86400#32).toInt = 86400 from rfl, show (3#32).toInt = 3 from rfl, Int.bmod_eq_of_le (by omega) (by omega),
    WordCmp.toInt_ofNat_of_lt (w := 32) (by have := (dayOf w).isLt; omega)]
  simp only [dayOf]; omega

/-- The sign of a word against one, from two comparisons with zero: it differs from one exactly where the word is
    not positive. -/
theorem sign_bits (w : BitVec 32) (k : BitVec 32) (hk : k = 1#32) :
    IntOp.cmpi .ne (IntOp.subi (BitVec.setWidth 32 (IntOp.cmpi .sgt w 0#32)) (BitVec.setWidth 32 (IntOp.cmpi .slt w 0#32))) k = 1#1 ↔ ¬0 < w.toInt := by
  subst hk
  have h1 := IntOp.cmpi_sgt (x := w) (y := 0#32)
  have h2 := IntOp.cmpi_slt (x := w) (y := 0#32)
  rw [BitVec.toInt_zero] at h1 h2
  rw [← h1]
  have h3 : ¬(IntOp.cmpi .sgt w 0#32 = 1#1 ∧ IntOp.cmpi .slt w 0#32 = 1#1) := by rw [h1, h2]; omega
  revert h3; generalize IntOp.cmpi .sgt w 0#32 = a; generalize IntOp.cmpi .slt w 0#32 = b; revert a b; decide

/-- The sign of a word against one, from the sign function: it differs from one exactly where the word is not
    positive. -/
theorem sign_word (w : BitVec 32) (k : BitVec 32) (hk : k = 1#32) :
    IntOp.cmpi .ne (if w = 0 then 0 else if w.msb then -1 else 1) k = 1#1 ↔ ¬0 < w.toInt := by
  subst hk
  rw [IntOp.cmpi_ne]
  have h0 : w = 0 ↔ w.toInt = 0 := by rw [← BitVec.toInt_inj]; rfl
  have hm := BitVec.msb_eq_toInt (x := w)
  split_ifs with h1 h2
  · exact ⟨fun _ => by rw [h0.1 h1]; decide, fun _ => by decide⟩
  · rw [h2] at hm
    have := of_decide_eq_true hm.symm
    exact ⟨fun _ => by omega, fun _ => by decide⟩
  · rw [Bool.not_eq_true] at h2
    rw [h2] at hm
    have := of_decide_eq_false hm.symm
    rw [h0] at h1
    exact ⟨fun h => absurd rfl h, fun h => by omega⟩

end Cert.Proof.Words

end
-- ==== Proof.Cell.lean ====
/-
  One entry of what a point adds for the times. The kernel multiplies a matrix of zeros and ones, two ones to a
  column, with the table of the 24 hour rows and the 7 day rows; the product is the sum of the hour's row and the
  day's row.
-/
module

public import proofs.«01_k».proof.Proof.Gen.KernelIdeal.Value
public import proofs.«01_k».proof.Proof.Words

@[expose] public section

set_option maxRecDepth 16384

noncomputable section

namespace Cert.Proof.Cell

open Idealize.ShloMosaic Cert.KernelIdeal Cert.KernelIdeal.Gen

/-- The row numbers of the table, as the kernel counts them. -/
abbrev rows : IVec S31x512 32 := iota Kind.tc S31x512 32 [0] iota_S31x512_d0_w32

/-- The bit of row `k` in the column of an hour word `h` and a day word `e`: set where `k` is `h` or `e + 24`. -/
def bit (h e : BitVec 32) (k : Fin 31) : BitVec 1 :=
  IntOp.ori (IntOp.cmpi .eq h (BitVec.ofNat 32 k.val)) (IntOp.cmpi .eq (IntOp.addi e 24#32) (BitVec.ofNat 32 k.val))

/-- The sum over the table's rows in the column of an hour word and a day word. -/
def pick (h e : BitVec 32) (f : Fin 31 → EReal) : EReal := ∑ k, FloatOps.sitofp (F := Ideal) FTy.f32 (BitVec.setWidth 32 (bit h e k)) * f k

/-- The bit is set exactly in the hour's row and in the day's row. -/
theorem bit_eq : ∀ (h : Fin 24) (e : Fin 7) (k : Fin 31),
    (BitVec.setWidth 32 (bit (BitVec.ofNat 32 h.val) (BitVec.ofNat 32 e.val) k)).toInt = if k.val = h.val ∨ k.val = 24 + e.val then 1 else 0 := by
  decide +kernel

/-- The sum over the table's rows is the hour's row plus the day's row. -/
theorem pick_eq (h : Fin 24) (e : Fin 7) (f : Fin 31 → EReal) :
    pick (BitVec.ofNat 32 h.val) (BitVec.ofNat 32 e.val) f = f ⟨h.val, by omega⟩ + f ⟨24 + e.val, by omega⟩ := by
  have hh := h.isLt
  have he := e.isLt
  have key : ∀ k : Fin 31, FloatOps.sitofp (F := Ideal) FTy.f32 (BitVec.setWidth 32 (bit (BitVec.ofNat 32 h.val) (BitVec.ofNat 32 e.val) k)) * f k
      = (if k = ⟨h.val, by omega⟩ then f k else 0) + (if k = ⟨24 + e.val, by omega⟩ then f k else 0) := fun k => by
    show (((BitVec.setWidth 32 (bit (BitVec.ofNat 32 h.val) (BitVec.ofNat 32 e.val) k)).toInt : ℝ) : EReal) * f k = _
    rw [bit_eq h e k]
    simp only [Fin.ext_iff]
    by_cases h1 : k.val = h.val
    · rw [if_pos (Or.inl h1), if_pos h1, if_neg (by omega)]; simp
    · by_cases h2 : k.val = 24 + e.val
      · rw [if_pos (Or.inr h2), if_neg h1, if_pos h2]; simp
      · rw [if_neg (by omega), if_neg h1, if_neg h2]; simp
  unfold pick
  rw [Finset.sum_congr rfl fun k _ => key k, Finset.sum_add_distrib, Finset.sum_ite_eq' Finset.univ, Finset.sum_ite_eq' Finset.univ,
    if_pos (Finset.mem_univ _), if_pos (Finset.mem_univ _)]

section Parts

variable (h e : IVec S4x512 32) (cat : Vec Ideal S31x1024 .f32) (pe : Vec Ideal S512x1024 .f32) (x : Vec Ideal S512x1x1024 .f32) (r : Fin 512) (d : Fin 1024)

/-- What a point stores for the batch entry 0. -/
theorem part0 : k0_pay12 (F := Ideal) h e cat rows pe x (ix3 r 0 d)
    = x (ix3 r 0 d) + pe (ix2 r d) + pick (h (ix2 0 r)) (e (ix2 0 r)) fun k => cat (ix2 k d) := by
  pointwise [k0_pay12]; rfl

/-- What a point stores for the batch entry 1. -/
theorem part1 : k0_pay13 (F := Ideal) h e cat rows pe x (ix3 r 0 d)
    = x (ix3 r 0 d) + pe (ix2 r d) + pick (h (ix2 1 r)) (e (ix2 1 r)) fun k => cat (ix2 k d) := by
  pointwise [k0_pay13]; rfl

/-- What a point stores for the batch entry 2. -/
theorem part2 : k0_pay1 (F := Ideal) cat rows pe (k0_pay14 h rows) (k0_pay15 e) x (ix3 r 0 d)
    = x (ix3 r 0 d) + pe (ix2 r d) + pick (h (ix2 2 r)) (e (ix2 2 r)) fun k => cat (ix2 k d) := by
  pointwise [k0_pay1, k0_pay14, k0_pay15]; rfl

/-- What a point stores for the batch entry 3. -/
theorem part3 : k0_pay2 (F := Ideal) h e cat rows pe x (ix3 r 0 d)
    = x (ix3 r 0 d) + pe (ix2 r d) + pick (h (ix2 3 r)) (e (ix2 3 r)) fun k => cat (ix2 k d) := by
  pointwise [k0_pay2]; rfl

end Parts

/-- Two bits differ where their exclusive or is set. -/
theorem xor_bits : ∀ a b : BitVec 1, IntOp.xori a b = IntOp.cmpi .ne a b := by decide

/-- The hours in a day, guarded against zero. -/
theorem guard_hours : Scalar.select (Scalar.cmpi CmpIPredicate.eq 24#32 0#32) 1#32 24#32 = 24#32 := by decide

/-- The days in a week, guarded against zero. -/
theorem guard_days : Scalar.select (Scalar.cmpi CmpIPredicate.eq 7#32 0#32) 1#32 7#32 = 7#32 := by decide

/-- The hour words a point computes. -/
theorem hour_apply (ts : IVec S4x512 32) (b : Fin 4) (r : Fin 512) :
    k0_pay3 (F := Ideal) ts (ix2 b r) = BitVec.ofNat 32 (Words.hourOf (ts (ix2 b r))).val := by
  pointwise [k0_pay3]
  rw [guard_hours, xor_bits]
  exact Words.hour_word .vector _ _ (Words.sign_bits _ _ (by decide))

/-- The day words a point computes. -/
theorem day_apply (ts : IVec S4x512 32) (b : Fin 4) (r : Fin 512) :
    k0_pay5 (F := Ideal) ts 86400#32 (k0_pay4 (F := Ideal) ts) (ix2 b r) = BitVec.ofNat 32 (Words.dayOf (ts (ix2 b r))).val := by
  pointwise [k0_pay5, k0_pay4]
  rw [guard_days, xor_bits]
  exact Words.day_word .vector _ _ (Words.sign_bits _ _ (by decide))

section Rows

variable (ht : Vec Ideal S24x256 .f32) (dt : Vec Ideal S7x256 .f32) (w : Vec Ideal S512x1024 .f32) (b : Vec Ideal S1x1024 .f32)

/-- The row of an hour, through the upper half of the weights, with the bias `bias`. -/
def hourRow (bias : Fin 1024 → EReal) (h : Fin 24) (d : Fin 1024) : EReal := (∑ k : Fin 256, ht (ix2 h k) * w (ix2 ⟨k.val, by omega⟩ d)) + bias d

/-- The row of a day, through the lower half of the weights. -/
def dayRow (e : Fin 7) (d : Fin 1024) : EReal := ∑ k : Fin 256, dt (ix2 e k) * w (ix2 ⟨256 + k.val, by omega⟩ d)

/-- The kernel's table of the 24 hour rows and the 7 day rows. -/
abbrev table : Vec Ideal S31x1024 .f32 :=
  k0_pay6 (F := Ideal) ht (View.ld w (Rect.unit (s := S512x1024) ![0, 0] ![256, 1024] inb_S512x1024_S256x1024_0_0)) (constant S24x1024 FTy.f32 0#32) b dt
    (View.ld w (Rect.unit (s := S512x1024) ![256, 0] ![256, 1024] inb_S512x1024_S256x1024_256_0))

/-- Row `h` of the kernel's table is the row of hour `h`. -/
theorem table_hour (h : Fin 24) (d : Fin 1024) : table ht dt w b (ix2 ⟨h.val, by omega⟩ d) = hourRow ht w (fun d => b (ix2 0 d)) h d := by
  have hh := h.isLt
  pointwise [table, k0_pay6, hourRow]

/-- Row `24 + e` of the kernel's table is the row of day `e`. -/
theorem table_day (e : Fin 7) (d : Fin 1024) : table ht dt w b (ix2 ⟨24 + e.val, by omega⟩ d) = dayRow dt w e d := by
  pointwise [table, k0_pay6, dayRow]

end Rows

end Cert.Proof.Cell

end
-- ==== Proof.Table.lean ====
/-
  The sinusoidal table: entry `(s, d)` is the sine of `s · f d` in an even column and its cosine in an odd one,
  where both columns of a pair share the frequency `f d = exp ((d - d % 2) · κ)` and `κ` is the constant
  `-ln 10000 / 1024` as a 32-bit float. The precondition says that the first 4096 rows of the position argument are this table's; a point of
  the kernel rotates the table's first rows by an angle, which gives the table's rows of the point.
-/
module

public import proofs.«01_k».proof.Proof.Gen.KernelIdeal.Value
public import proofs.«01_k».proof.Proof.Gen.Pre_pe_is_sinusoidal
public import proofs.«01_k».proof.Proof.Words

@[expose] public section

set_option maxRecDepth 16384

noncomputable section

namespace Cert.Proof.Table

open Idealize.ShloMosaic

/-- The real number that the frequency's constant is. -/
def κ : ℝ := (Ideal.ofBits .f32 3155385742#32).toReal

/-- The frequency's constant is finite. -/
theorem coe_κ : Ideal.ofBits .f32 3155385742#32 = (κ : EReal) := by
  have h : ∃ x : ℝ, Ideal.ofBits .f32 3155385742#32 = (x : EReal) := by
    unfold Ideal.ofBits Ideal.ieee
    dsimp only
    rw [if_neg (by decide), if_neg (by decide)]
    exact ⟨_, rfl⟩
  obtain ⟨x, hx⟩ := h
  rw [κ, hx, EReal.toReal_coe]

/-- The frequency of a column. -/
def freq (d : Nat) : ℝ := Real.exp ((d - d % 2 : Nat) * κ)

/-- Entry `(s, d)` of the table. -/
def entry (s d : Nat) : EReal := if d % 2 = 0 then (Real.sin (s * freq d) : EReal) else (Real.cos (s * freq d) : EReal)

/-- In an even column, row `a + r` of the table is row `r` turned by the angle of row `a`: the sine of a sum of angles,
    the cosine of row `r` being in the next column. -/
theorem entry_add_even (a r d : Nat) (h : d % 2 = 0) :
    entry r d * (Real.cos (a * freq d) : EReal) + entry r (d + 1) * (Real.sin (a * freq d) : EReal) = entry (a + r) d := by
  have e : freq (d + 1) = freq d := by unfold freq; rw [show d + 1 - (d + 1) % 2 = d - d % 2 by omega]
  have h1 : ¬(d + 1) % 2 = 0 := by omega
  simp only [entry, if_pos h, if_neg h1, e, ← EReal.coe_mul, ← EReal.coe_add]
  rw [Nat.cast_add, add_mul, add_comm (_ * freq d), Real.sin_add]

/-- In an odd column, row `a + r` of the table is row `r` turned by the angle of row `a`: the cosine of a sum of angles,
    the sine of row `r` being in the column before. -/
theorem entry_add_odd (a r d : Nat) (h : ¬d % 2 = 0) :
    entry r d * (Real.cos (a * freq d) : EReal) + entry r (d - 1) * (0 - (Real.sin (a * freq d) : EReal)) = entry (a + r) d := by
  have e : freq (d - 1) = freq d := by unfold freq; rw [show d - 1 - (d - 1) % 2 = d - d % 2 by omega]
  have h1 : (d - 1) % 2 = 0 := by omega
  simp only [entry, if_neg h, if_pos h1, e]
  rw [← EReal.coe_zero, ← EReal.coe_sub]
  simp only [← EReal.coe_mul, ← EReal.coe_add]
  rw [Nat.cast_add, add_mul, add_comm (_ * freq d), Real.cos_add]
  congr 1; ring

/-- The integer part of a column's word: the column's word without its last bit. -/
theorem pair_word : ∀ d : Fin 1024, (IntOp.andi (BitVec.ofNat 32 d.val) 4294967294#32).toInt = ((d.val - d.val % 2 : Nat) : Int) := by
  decide +kernel

/-- The last bit of a column's word says whether the column is even. -/
theorem even_word : ∀ d : Fin 1024, IntOp.cmpi .eq (IntOp.andi (BitVec.ofNat 32 d.val) 1#32) 0#32 = 1#1 ↔ d.val % 2 = 0 := by
  decide +kernel

end Cert.Proof.Table

namespace Cert.Proof.Table

open Idealize.ShloMosaic Cert.KernelIdeal Cert.KernelIdeal.Gen

/-- The angle's constant, at a column: the frequency of the column. -/
theorem exp_pair (d : Fin 1024) :
    Ideal.exp (FloatOps.sitofp (F := Ideal) FTy.f32 (IntOp.andi (BitVec.ofNat 32 d.val) 4294967294#32) * Ideal.ofBits FTy.f32 3155385742#32) = (freq d.val : EReal) := by
  show Ideal.exp ((((IntOp.andi (BitVec.ofNat 32 d.val) 4294967294#32).toInt : ℝ) : EReal) * _) = _
  rw [pair_word d, coe_κ, ← EReal.coe_mul, Ideal.exp_coe]
  simp [freq]

/-- The word of a point's first row. -/
theorem row_word : ∀ n : Fin 8, (Scalar.muli (BitVec.ofNat 32 n.val) 512#32).toInt = ((512 * n.val : Nat) : Int) := by
  decide +kernel

/-- What a point adds for the position: where its block of positions is the first 512 rows of the table, point `n`
    reads rows `512 n ..` of the table. -/
theorem pos_apply (n : Fin 8) (p : Vec Ideal S512x1x1024 .f32) (hp : ∀ (r : Fin 512) (d : Fin 1024), p (ix3 r 0 d) = entry r.val d.val)
    (r : Fin 512) (d : Fin 1024) :
    k0_pay11 (F := Ideal) (BitVec.ofNat 32 n.val) (k0_pay9 p) (k0_pay10 p) (ix2 r d) = entry (512 * n.val + r.val) d.val := by
  have hd := d.isLt
  pointwise [k0_pay11, k0_pay7, k0_pay9, k0_pay10, k0_pay8]
  rw [exp_pair d, row_word n, Words.select_iff (even_word d), Words.select_iff (even_word d)]
  simp only [hp]
  rw [show (((512 * n.val : Nat) : Int) : ℝ) = ((512 * n.val : Nat) : ℝ) from Int.cast_natCast _, ← EReal.coe_mul, Ideal.cos_coe, Ideal.sin_coe]
  by_cases h : d.val % 2 = 0
  · rw [if_pos h, if_pos h, dif_pos (by omega), Nat.add_comm 1 d.val]
    exact entry_add_even _ _ _ h
  · rw [if_neg h, if_neg h, dif_neg (by omega)]
    exact entry_add_odd _ _ _ h

end Cert.Proof.Table

namespace Cert.Proof.Table

open Idealize.ShloMosaic Cert.Pre_pe_is_sinusoidal Cert.Pre_pe_is_sinusoidal.Gen

/-- The remainder of a column by two, as the precondition computes it, is the column's last bit. -/
theorem rem_word : ∀ d : Fin 1024, Words.modWord .host (BitVec.ofNat 32 d.val) 2#32 = BitVec.ofNat 32 (d.val % 2) := by
  decide +kernel

/-- That remainder is zero in the even columns. -/
theorem zero_word : ∀ d : Fin 1024, IntOp.cmpi .eq (BitVec.ofNat 32 (d.val % 2)) 0#32 = 1#1 ↔ d.val % 2 = 0 := by
  decide +kernel

/-- The column less that remainder. -/
theorem sub_word : ∀ d : Fin 1024, (IntOp.subi (BitVec.ofNat 32 d.val) (BitVec.ofNat 32 (d.val % 2))).toInt = ((d.val - d.val % 2 : Nat) : Int) := by
  decide +kernel

/-- The frequency of a column, as the precondition computes it. -/
theorem exp_pair_sub (d : Fin 1024) :
    Ideal.exp (FloatOps.sitofp (F := Ideal) FTy.f32 (IntOp.subi (BitVec.ofNat 32 d.val) (BitVec.ofNat 32 (d.val % 2))) * Ideal.ofBits FTy.f32 3155385742#32)
      = (freq d.val : EReal) := by
  show Ideal.exp ((((IntOp.subi (BitVec.ofNat 32 d.val) (BitVec.ofNat 32 (d.val % 2))).toInt : ℝ) : EReal) * _) = _
  rw [sub_word d, coe_κ, ← EReal.coe_mul, Ideal.exp_coe]
  simp [freq]

/-- The precondition's remainder by two, at an index. -/
theorem rem_apply (x : IVec S4096x1x1024 32) (i : S4096x1x1024.Idx) :
    fn_remainder (F := Ideal) x (constantI S_ 32 2#32) i = Words.modWord .host (x i) 2#32 := by
  pointwise [fn_remainder, fn_where]
  rfl

/-- The precondition says of the position argument that its first rows are the table's. -/
theorem pre_apply (x : FVec Ideal S4096x4x1024 .f32) (ht : FVec Ideal S24x256 .f32) (dt : FVec Ideal S7x256 .f32) (w : FVec Ideal S512x1024 .f32)
    (b : FVec Ideal S1024 .f32) (pe : FVec Ideal S8192x1x1024 .f32) (ts : IVec S4x4096 32)
    (h : fn (F := Ideal) x ht dt w b pe ts = fun _ => 1#1) (s : Fin 4096) (d : Fin 1024) :
    pe (ix3 ⟨s.val, by omega⟩ 0 d) = entry s.val d.val := by
  have h := congrFun h (ix3 s 0 d)
  revert h
  pointwise [fn, fn_where_0, rem_apply, rem_word d]
  intro h
  have h := of_decide_eq_true ((Words.ofBool_iff _).1 h)
  rw [exp_pair_sub d, Words.select_iff (zero_word d)] at h
  rw [h]
  show (if _ then Ideal.sin (((((BitVec.ofNat 32 s.val).toInt : ℝ)) : EReal) * _) else Ideal.cos (((((BitVec.ofNat 32 s.val).toInt : ℝ)) : EReal) * _)) = _
  rw [WordCmp.toInt_ofNat_of_lt (w := 32) (by have := s.isLt; omega), Int.cast_natCast, ← EReal.coe_mul, Ideal.sin_coe, Ideal.cos_coe]
  rfl

end Cert.Proof.Table

end
-- ==== Proof.Block.lean ====
/-
  What one point of the kernel leaves: its block of the output, entry by entry, and the two arrays it carries to the
  next points. The first point writes the two carried arrays from its block of positions; every later point leaves
  them as they are, so every point adds the positions of the first point, turned by its own angle.
-/
module

public import proofs.«01_k».proof.Proof.Cell
public import proofs.«01_k».proof.Proof.Table
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Proof.Block

open Idealize.ShloMosaic Idealize.ShloMosaic.TcCoe Idealize.SL.Sem
open Cert.KernelIdeal Cert.KernelIdeal.Gen
open Cert.Proof.Cell

section Value

variable (ts : Vec Ideal S4x512 .i32) (x : Vec Ideal S512x4x1024 .f32) (ht : Vec Ideal S24x256 .f32) (dt : Vec Ideal S7x256 .f32)
  (w : Vec Ideal S512x1024 .f32) (b : Vec Ideal S1x1024 .f32) (pos : Vec Ideal S512x1024 .f32)

/-- Entry `(r, q, d)` of a point's output block: the input's entry, the position's, and the rows of the hour and of
    the day. -/
def cell (r : Fin 512) (q : Fin 4) (d : Fin 1024) : EReal :=
  x (ix3 r q d) + pos (ix2 r d) + (hourRow ht w (fun d => b (ix2 0 d)) (Words.hourOf (ts (ix2 q r))) d + dayRow dt w (Words.dayOf (ts (ix2 q r))) d)

/-- The hour words of a point's times. -/
abbrev hours : IVec S4x512 32 := k0_pay3 (F := Ideal) ts

/-- The day words of a point's times. -/
abbrev days : IVec S4x512 32 := k0_pay5 (F := Ideal) ts 86400#32 (k0_pay4 (F := Ideal) ts)

/-- The sum over the kernel's table in the column of a point's times is the hour's row plus the day's row. -/
theorem pick_rows (q : Fin 4) (r : Fin 512) (d : Fin 1024) :
    pick (hours ts (ix2 q r)) (days ts (ix2 q r)) (fun k => table ht dt w b (ix2 k d))
      = hourRow ht w (fun d => b (ix2 0 d)) (Words.hourOf (ts (ix2 q r))) d + dayRow dt w (Words.dayOf (ts (ix2 q r))) d := by
  rw [hours, days, hour_apply, day_apply, pick_eq, table_hour, table_day]

/-- The four pieces a point stores, one for each batch entry, make its output block. -/
theorem pieces (r : Fin 512) (q : Fin 4) (d : Fin 1024) :
    View.canon (Val := Elt Ideal) (s := S512x4x1024) (e := .f32)
      [⟨Rect.unit ![0, 3, 0] ![512, 1, 1024] inb_S512x4x1024_S512x1x1024_0_3_0,
          k0_pay2 (F := Ideal) (hours ts) (days ts) (table ht dt w b) rows pos (View.ld x (Rect.unit ![0, 3, 0] ![512, 1, 1024] inb_S512x4x1024_S512x1x1024_0_3_0))⟩,
        ⟨Rect.unit ![0, 2, 0] ![512, 1, 1024] inb_S512x4x1024_S512x1x1024_0_2_0,
          k0_pay1 (F := Ideal) (table ht dt w b) rows pos (k0_pay14 (hours ts) rows) (k0_pay15 (days ts)) (View.ld x (Rect.unit ![0, 2, 0] ![512, 1, 1024] inb_S512x4x1024_S512x1x1024_0_2_0))⟩,
        ⟨Rect.unit ![0, 1, 0] ![512, 1, 1024] inb_S512x4x1024_S512x1x1024_0_1_0,
          k0_pay13 (F := Ideal) (hours ts) (days ts) (table ht dt w b) rows pos (View.ld x (Rect.unit ![0, 1, 0] ![512, 1, 1024] inb_S512x4x1024_S512x1x1024_0_1_0))⟩,
        ⟨Rect.unit ![0, 0, 0] ![512, 1, 1024] inb_S512x4x1024_S512x1x1024_0_0_0,
          k0_pay12 (F := Ideal) (hours ts) (days ts) (table ht dt w b) rows pos (View.ld x (Rect.unit ![0, 0, 0] ![512, 1, 1024] inb_S512x4x1024_S512x1x1024_0_0_0))⟩]
      (ix3 r q d) = cell ts x ht dt w b pos r q d := by
  canon_tiles z h
  all_goals
    idx_vars z
    obtain rfl : z1 = 0 := Subsingleton.elim _ _
    obtain rfl : r = z0 := Fin.ext h0
    obtain rfl : d = z2 := Fin.ext h2
  · obtain rfl : q = 3 := Fin.ext h1
    rw [part3, pick_rows]
    pointwise [cell]
  · obtain rfl : q = 2 := Fin.ext h1
    rw [part2, pick_rows]
    pointwise [cell]
  · obtain rfl : q = 1 := Fin.ext h1
    rw [part1, pick_rows]
    pointwise [cell]
  · obtain rfl : q = 0 := Fin.ext h1
    rw [part0, pick_rows]
    pointwise [cell]

end Value

section Point

variable (m : (ℓ : Loc nD τ sig) → Buf (Elt Ideal) ℓ) (c : Dev nD) (t : Fin cfg0.N)

/-- The positions a point adds, from the carried arrays `p` and `q`. -/
abbrev turned (p q : Vec Ideal S512x1024 .f32) : Vec Ideal S512x1024 .f32 := k0_pay11 (F := Ideal) (BitVec.ofNat 32 (grid0.coords t 0)) p q

/-- The first point carries its block of positions on. -/
theorem carry0_first (h0 : t.val % 8 = 0) : (outsAt0 m c t.val t.isLt).2.1 = k0_pay9 (F := Ideal) (iblk m c 2 t) := by
  rw [outsAt0_A m c t h0]; frame_out

/-- The first point carries its block of positions, with the columns of each pair swapped, on. -/
theorem carry1_first (h0 : t.val % 8 = 0) : (outsAt0 m c t.val t.isLt).2.2 = k0_pay10 (F := Ideal) (iblk m c 2 t) := by
  rw [outsAt0_A m c t h0]; frame_out

/-- A later point leaves the first carried array as it is. -/
theorem carry0_later (h0 : ¬t.val % 8 = 0) : (outsAt0 m c t.val t.isLt).2.1 = (outsAt0 m c (t.val - 1) (Nat.lt_of_le_of_lt (Nat.sub_le _ _) t.isLt)).2.1 := by
  rw [outsAt0_B m c t h0]; rfl

/-- A later point leaves the second carried array as it is. -/
theorem carry1_later (h0 : ¬t.val % 8 = 0) : (outsAt0 m c t.val t.isLt).2.2 = (outsAt0 m c (t.val - 1) (Nat.lt_of_le_of_lt (Nat.sub_le _ _) t.isLt)).2.2 := by
  rw [outsAt0_B m c t h0]; rfl

/-- The first point's output block. -/
theorem out_first (h0 : t.val % 8 = 0) (r : Fin 512) (q : Fin 4) (d : Fin 1024) :
    (outsAt0 m c t.val t.isLt).1 (ix3 r q d)
      = cell (iblk m c 0 t) (iblk m c 1 t) (iblk m c 3 t) (iblk m c 4 t) (iblk m c 5 t) (iblk m c 6 t) (turned t (outsAt0 m c t.val t.isLt).2.1 (outsAt0 m c t.val t.isLt).2.2) r q d := by
  rw [carry0_first m c t h0, carry1_first m c t h0, outsAt0_A m c t h0]; frame_open
  simp (disch := decide) only [↓ View.readCov_skip, ↓ View.readCov_cons_toLoadRect, ↓ View.readCov_fill]
  frame_out
  exact pieces _ _ _ _ _ _ _ r q d

/-- A later point's output block. -/
theorem out_later (h0 : ¬t.val % 8 = 0) (r : Fin 512) (q : Fin 4) (d : Fin 1024) :
    (outsAt0 m c t.val t.isLt).1 (ix3 r q d)
      = cell (iblk m c 0 t) (iblk m c 1 t) (iblk m c 3 t) (iblk m c 4 t) (iblk m c 5 t) (iblk m c 6 t) (turned t (outsAt0 m c t.val t.isLt).2.1 (outsAt0 m c t.val t.isLt).2.2) r q d := by
  rw [carry0_later m c t h0, carry1_later m c t h0, outsAt0_B m c t h0]; frame_open
  simp (disch := decide) only [↓ View.readCov_skip, ↓ View.readCov_cons_toLoadRect, ↓ View.readCov_fill]
  frame_out
  simp only [read_unread_whole]
  exact pieces _ _ _ _ _ _ _ r q d

/-- Every point's output block, from the arrays carried past it. -/
theorem out_point (r : Fin 512) (q : Fin 4) (d : Fin 1024) :
    (outsAt0 m c t.val t.isLt).1 (ix3 r q d)
      = cell (iblk m c 0 t) (iblk m c 1 t) (iblk m c 3 t) (iblk m c 4 t) (iblk m c 5 t) (iblk m c 6 t) (turned t (outsAt0 m c t.val t.isLt).2.1 (outsAt0 m c t.val t.isLt).2.2) r q d := by
  by_cases h0 : t.val % 8 = 0
  · exact out_first m c t h0 r q d
  · exact out_later m c t h0 r q d

end Point

end Cert.Proof.Block

end
-- ==== Proof.Array.lean ====
/-
  The kernel's whole result. Point `t` writes rows `512 t ..` of the output, so the array ends with one closed form:
  at row `s`, batch entry `q` and column `d`, the input's entry, entry `(s, d)` of the sinusoidal table, and the rows
  of the hour and of the day at the time of row `s` in batch entry `q`.
-/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.Proof.Array

open Idealize.ShloMosaic Idealize.ShloMosaic.TcCoe Idealize.SL.Sem
open Cert.KernelIdeal Cert.KernelIdeal.Gen
open Cert.Proof.Cell Cert.Proof.Block

/-- The closed form of the result. -/
def value (x : Vec Ideal S4096x4x1024 .f32) (ht : Vec Ideal S24x256 .f32) (dt : Vec Ideal S7x256 .f32) (w : Vec Ideal S512x1024 .f32)
    (b : Vec Ideal S1024 .f32) (ts : Vec Ideal S4x4096 .i32) (s : Fin 4096) (q : Fin 4) (d : Fin 1024) : EReal :=
  x (ix3 s q d) + Table.entry s.val d.val
    + (hourRow ht w (fun d => b (ix1 d)) (Words.hourOf (ts (ix2 q s))) d + dayRow dt w (Words.dayOf (ts (ix2 q s))) d)

/-- Where each window stands at each point. -/
theorem idx : ∀ t : Fin cfg0.N, win0_0.index t = ![0, t.val] ∧ win0_1.index t = ![t.val, 0, 0] ∧ win0_2.index t = ![0, 0, 0] ∧ win0_3.index t = ![0, 0]
    ∧ win0_4.index t = ![0, 0] ∧ win0_5.index t = ![0, 0] ∧ win0_6.index t = ![0, 0] ∧ win0_7.index t = ![t.val, 0, 0] := by
  decide +kernel

/-- The point's number is its grid coordinate. -/
theorem coord : ∀ t : Fin cfg0.N, (grid0.coords t 0 : Nat) = t.val := by decide +kernel

/-- There are eight points. -/
theorem lt_eight (t : Fin cfg0.N) : t.val < 8 := lt_of_lt_of_eq t.isLt (show cfg0.N = 8 from N_0)

variable (m : (ℓ : Loc nD τ sig) → Buf (Elt Ideal) ℓ) (c : Dev nD) (t : Fin cfg0.N)

/-- The row of the whole array that row `r` of a point's block is. -/
abbrev row (r : Fin 512) : Fin 4096 := ⟨512 * t.val + r.val, by have := lt_eight t; omega⟩

theorem times (q : Fin 4) (r : Fin 512) : (iblk m c 0 t : Vec Ideal S4x512 .i32) (ix2 q r) = m ((c : Thread nD τ).loc main_arg6) (ix2 q (row t r)) := by
  blk_ext [iblk, V, idx t]

theorem inputs (r : Fin 512) (q : Fin 4) (d : Fin 1024) :
    (iblk m c 1 t : Vec Ideal S512x4x1024 .f32) (ix3 r q d) = m ((c : Thread nD τ).loc main_arg0) (ix3 (row t r) q d) := by
  blk_ext [iblk, V, idx t]

theorem positions (r : Fin 512) (d : Fin 1024) :
    (iblk m c 2 t : Vec Ideal S512x1x1024 .f32) (ix3 r 0 d) = m ((c : Thread nD τ).loc main_arg5) (ix3 ⟨r.val, by omega⟩ 0 d) := by
  blk_point [iblk, V, idx t]

theorem hourTable (h : Fin 24) (k : Fin 256) :
    (iblk m c 3 t : Vec Ideal S24x256 .f32) (ix2 h k) = m ((c : Thread nD τ).loc main_arg1) (ix2 h k) := by
  blk_ext [iblk, V, idx t]

theorem dayTable (e : Fin 7) (k : Fin 256) :
    (iblk m c 4 t : Vec Ideal S7x256 .f32) (ix2 e k) = m ((c : Thread nD τ).loc main_arg2) (ix2 e k) := by
  blk_ext [iblk, V, idx t]

theorem weights (k : Fin 512) (d : Fin 1024) :
    (iblk m c 5 t : Vec Ideal S512x1024 .f32) (ix2 k d) = m ((c : Thread nD τ).loc main_arg3) (ix2 k d) := by
  blk_ext [iblk, V, idx t]

theorem biases (d : Fin 1024) : (iblk m c 6 t : Vec Ideal S1x1024 .f32) (ix2 0 d) = m ((c : Thread nD τ).loc main_arg4) (ix1 d) := by
  blk_point [iblk, V, idx t]

/-- The first carried array, at every point: the first point's block of positions. -/
theorem carry0 : (outsAt0 m c t.val t.isLt).2.1 = k0_pay9 (F := Ideal) (iblk m c 2 ⟨8 * (t.val / 8), Pipeline.run_start_lt t⟩) :=
  Pipeline.eq_of_write_hold (fun n h => (outsAt0 m c n h).2.1) 8 (fun u => k0_pay9 (F := Ideal) (iblk m c 2 u)) (carry0_first m c) (carry0_later m c) t

/-- The second carried array, at every point: the same block with the columns of each pair swapped. -/
theorem carry1 : (outsAt0 m c t.val t.isLt).2.2 = k0_pay10 (F := Ideal) (iblk m c 2 ⟨8 * (t.val / 8), Pipeline.run_start_lt t⟩) :=
  Pipeline.eq_of_write_hold (fun n h => (outsAt0 m c n h).2.2) 8 (fun u => k0_pay10 (F := Ideal) (iblk m c 2 u)) (carry1_first m c) (carry1_later m c) t

/-- The position added at a point is the table's entry at the row of the whole array. -/
theorem turned_entry (hp : ∀ (s : Fin 4096) (d : Fin 1024), m ((c : Thread nD τ).loc main_arg5) (ix3 ⟨s.val, by omega⟩ 0 d) = Table.entry s.val d.val) (r : Fin 512) (d : Fin 1024) :
    turned t (outsAt0 m c t.val t.isLt).2.1 (outsAt0 m c t.val t.isLt).2.2 (ix2 r d) = Table.entry (512 * t.val + r.val) d.val := by
  rw [turned, coord, carry0, carry1]
  exact Table.pos_apply ⟨t.val, lt_eight t⟩ _ (fun r d => (positions m c _ r d).trans (hp ⟨r.val, by omega⟩ d)) r d

/-- A point's block holds the closed form at its rows. -/
theorem out_value (hp : ∀ (s : Fin 4096) (d : Fin 1024), m ((c : Thread nD τ).loc main_arg5) (ix3 ⟨s.val, by omega⟩ 0 d) = Table.entry s.val d.val)
    (r : Fin 512) (q : Fin 4) (d : Fin 1024) :
    (outsAt0 m c t.val t.isLt).1 (ix3 r q d)
      = value (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg6)) (row t r) q d := by
  rw [out_point, cell, turned_entry m c t hp, inputs, times]
  simp only [hourRow, dayRow, hourTable, dayTable, weights, biases, value]

/-- Where a point's output block lies in the result. -/
theorem place (r : Fin 512) (q : Fin 4) (d : Fin 1024) : (win0_7.blk t).view.emb (ix3 r q d) = ix3 (row t r) q d := by
  funext a
  refine Fin.ext ((Pipeline.Window.rect_emb_val win0_7 t (ix3 r q d) a).trans ?_)
  rw [(idx t).2.2.2.2.2.2.2]
  match a with
  | ⟨0, _⟩ => show t.val * 512 + r.val = 512 * t.val + r.val; omega
  | ⟨1, _⟩ => show 0 * 4 + q.val = q.val; omega
  | ⟨2, _⟩ => show 0 * 1024 + d.val = d.val; omega

/-- The kernel's result is the closed form, where the position table is the sinusoidal one. -/
theorem result (hp : ∀ (s : Fin 4096) (d : Fin 1024), m ((c : Thread nD τ).loc main_arg5) (ix3 ⟨s.val, by omega⟩ 0 d) = Table.entry s.val d.val) :
    Value.G7 (F := Ideal) m c = fun i => value (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg6)) (i 0) (i 1) (i 2) := by
  refine (Value.final7 m c).symm.trans ((dats m 0 c).arrAt_eq_of_covers 7 _ (by decide +kernel) fun u hf y => ?_)
  idx_vars y
  blk_simp [idx u]
  rw [after0_7, out_value m c u hp]
  exact congrArg (fun i : S4096x4x1024.Idx => value _ _ _ _ _ _ (i 0) (i 1) (i 2)) (place u y0 y1 y2).symm

end Cert.Proof.Array

end
-- ==== Proof.Ref.lean ====
/-
  The reference's result. The reference computes the hours and the days of all times, looks their rows up in the two
  tables, multiplies the pairs of rows by the weights, and adds the bias, the positions and the input. Here its result
  is read at an index: it is the same closed form as the kernel's.
-/
module

public import proofs.«01_k».proof.Proof.Array
public import proofs.«01_k».proof.Proof.Gen.ReferenceIdeal.Run
public import Idealize.ShloMosaic.Lib.ReduceAll

@[expose] public section

set_option maxRecDepth 16384

noncomputable section

namespace Cert.Proof.Ref

open Idealize.ShloMosaic Idealize.ShloMosaic.TcCoe Idealize.SL.Sem
open Cert.ReferenceIdeal Cert.ReferenceIdeal.Gen

/-- A word at every time. -/
abbrev times (n : IVec S_ 32) : IVec S4x4096 32 := broadcastInDim S4x4096 ![] bcast_S_S4x4096 n

/-- The reference's floored quotient of an array by `n`. -/
def floorArr (x : IVec S4x4096 32) (k : BitVec 32) : IVec S4x4096 32 :=
  select (andi (cmpi .ne (signi x) (times (signi (id (constantI S_ 32 k))))) (cmpi .ne (Host.remsi x (times (id (constantI S_ 32 k)))) (times (constantI S_ 32 0#32))))
    (subi (Host.divsi x (times (id (constantI S_ 32 k)))) (times (constantI S_ 32 1#32))) (Host.divsi x (times (id (constantI S_ 32 k))))

/-- The divisor of the reference's remainder: one in place of zero. -/
abbrev divisor (k : BitVec 32) : IVec S_ 32 :=
  select (cmpi .eq (id (constantI S_ 32 k)) (constantI S_ 32 0#32)) (constantI S_ 32 1#32) (id (constantI S_ 32 k))

/-- The reference's remainder of an array by `k`. -/
def modArr (x : IVec S4x4096 32) (k : BitVec 32) : IVec S4x4096 32 :=
  select (andi (cmpi .ne (cmpi .slt (Host.remsi x (times (divisor k))) (times (constantI S_ 32 0#32))) (broadcastInDim S4x4096 ![] bcast_S_S4x4096 (cmpi .slt (divisor k) (constantI S_ 32 0#32))))
      (cmpi .ne (Host.remsi x (times (divisor k))) (times (constantI S_ 32 0#32))))
    (addi (Host.remsi x (times (divisor k))) (times (divisor k))) (Host.remsi x (times (divisor k)))

/-- The hour at every time. -/
def hourArr (ts : IVec S4x4096 32) : IVec S4x4096 32 := modArr (floorArr ts 3600#32) 24#32

/-- The day at every time. -/
def dayArr (ts : IVec S4x4096 32) : IVec S4x4096 32 := modArr (addi (floorArr ts 86400#32) (times (constantI S_ 32 3#32))) 7#32

/-- The row numbers of a lookup, a negative one counted from the end of the table's `n` rows. -/
def rowsOf (ix : IVec S4x4096 32) (n : BitVec 32) : IVec S4x4096x1 32 :=
  broadcastInDim S4x4096x1 ![0, 1] bcast_S4x4096_S4x4096x1_0_1
    (select (cmpi .slt ix (times (constantI S_ 32 0#32))) (addi ix (times (constantI S_ 32 n))) ix)

/-- Where a row number is one of the table's, `last` being the last. -/
def inTable (I : IVec S4x4096x1 32) (last : BitVec 32) : IVec S4x4096 1 :=
  Host.reduce IntOp.andi
    (andi (cmpi .sge I (broadcastInDim S4x4096x1 ![] bcast_S_S4x4096x1 (constantI S_ 32 0#32)))
      (cmpi .sle I (broadcastInDim S4x4096x1 ![0, 1, 2] bcast_S1x1x1_S4x4096x1_0_1_2 (broadcastInDim S1x1x1 ![2] bcast_S1_S1x1x1_2 (constantI S1 32 last)))))
    (constantI S_ 1 1#1) reducesTo_S4x4096x1_S4x4096_d2 h_S_

/-- The rows `g` where the row number is one of the table's, and not-a-number elsewhere. -/
def masked (I : IVec S4x4096x1 32) (last : BitVec 32) (g : FVec Ideal S4x4096x256 .f32) : FVec Ideal S4x4096x256 .f32 :=
  select (broadcastInDim S4x4096x256 ![0, 1] bcast_S4x4096_S4x4096x256_0_1 (inTable I last)) g
    (broadcastInDim S4x4096x256 ![] bcast_S_S4x4096x256 (constant S_ .f32 0x7FC00000#32))

/-- The hour table looked up at every time. -/
def hourTake (ht : FVec Ideal S24x256 .f32) (ts : IVec S4x4096 32) : FVec Ideal S4x4096x256 .f32 :=
  masked (rowsOf (hourArr ts) 24#32) 23#32
    (Host.gather gather_S24x256_S4x4096x1_S4x4096x256_2_0_n_n_0_2_1256 ht (rowsOf (hourArr ts) 24#32))

/-- The day table looked up at every time. -/
def dayTake (dt : FVec Ideal S7x256 .f32) (ts : IVec S4x4096 32) : FVec Ideal S4x4096x256 .f32 :=
  masked (rowsOf (dayArr ts) 7#32) 6#32
    (Host.gather gather_S7x256_S4x4096x1_S4x4096x256_2_0_n_n_0_2_1256 dt (rowsOf (dayArr ts) 7#32))

/-- The reference's result from the looked-up rows. -/
def assemble (x : FVec Ideal S4096x4x1024 .f32) (hr dr : FVec Ideal S4x4096x256 .f32) (w : FVec Ideal S512x1024 .f32) (b : FVec Ideal S1024 .f32)
    (pe : FVec Ideal S8192x1x1024 .f32) : FVec Ideal S4096x4x1024 .f32 :=
  addf x (addf (broadcastInDim S4096x4x1024 ![0, 1, 2] bcast_S4096x1x1024_S4096x4x1024_0_1_2
      (extractStridedSlice S4096x1x1024 ![0, 0, 0] pe slices_S8192x1x1024_S4096x1x1024_0_0_0))
    (transpose S4096x4x1024 [1, 0, 2]
      (addf (Host.dotGeneral dot_S4x4096x512_S512x1024_S4x4096x1024_2_0_01_1_n_n none
          (concatenate S4x4096x512 2 [⟨S4x4096x256, hr⟩, ⟨S4x4096x256, dr⟩] concatenates_S4x4096x256_S4x4096x256_S4x4096x512_d2) w)
        (broadcastInDim S4x4096x1024 ![0, 1, 2] bcast_S1x1x1024_S4x4096x1024_0_1_2 (broadcastInDim S1x1x1024 ![2] bcast_S1024_S1x1x1024_2 b)))
      transposes_S4x4096x1024_S4096x4x1024_1_0_2))

/-- The reference's run ends with this assembly. -/
theorem run_eq (m : (ℓ : Loc nD τ sig) → Buf (Elt Ideal) ℓ) (c : Dev nD) :
    Value.res_main_v17 (F := Ideal) m c
      = assemble (m ((c : Thread nD τ).loc main_arg0)) (hourTake (m ((c : Thread nD τ).loc main_arg1)) (m ((c : Thread nD τ).loc main_arg6)))
          (dayTake (m ((c : Thread nD τ).loc main_arg2)) (m ((c : Thread nD τ).loc main_arg6)))
          (m ((c : Thread nD τ).loc main_arg3)) (m ((c : Thread nD τ).loc main_arg4)) (m ((c : Thread nD τ).loc main_arg5)) := rfl

/-- The reference's hour at a time. -/
theorem hourArr_apply (ts : IVec S4x4096 32) (q : Fin 4) (s : Fin 4096) :
    hourArr ts (ix2 q s) = BitVec.ofNat 32 (Words.hourOf (ts (ix2 q s))).val :=
  Words.hour_word .host _ _ (Words.sign_word _ _ (by show (if (3600#32 : BitVec 32) = 0 then (0 : BitVec 32) else if (3600#32 : BitVec 32).msb then -1 else 1) = 1#32; decide))

/-- The reference's day at a time. -/
theorem dayArr_apply (ts : IVec S4x4096 32) (q : Fin 4) (s : Fin 4096) :
    dayArr ts (ix2 q s) = BitVec.ofNat 32 (Words.dayOf (ts (ix2 q s))).val :=
  Words.day_word .host _ _ (Words.sign_word _ _ (by show (if (86400#32 : BitVec 32) = 0 then (0 : BitVec 32) else if (86400#32 : BitVec 32).msb then -1 else 1) = 1#32; decide))

/-- A row number that is not negative is read as it is. -/
theorem rowsOf_apply (ix : IVec S4x4096 32) (n : BitVec 32) (q : Fin 4) (s : Fin 4096) (h : 0 ≤ (ix (ix2 q s)).toInt) :
    rowsOf ix n (ix3 q s 0) = ix (ix2 q s) := by
  pointwise [rowsOf]
  rw [Words.select_iff IntOp.cmpi_slt, if_neg (not_lt.2 (show (0#32).toInt ≤ _ from h))]

/-- Where the row number is one of the table's, the test says so. -/
theorem inTable_apply (I : IVec S4x4096x1 32) (last : BitVec 32) (q : Fin 4) (s : Fin 4096)
    (h0 : 0 ≤ (I (ix3 q s 0)).toInt) (h1 : (I (ix3 q s 0)).toInt ≤ last.toInt) : inTable I last (ix2 q s) = 1#1 := by
  pointwise [inTable]
  rw [Finset.univ_unique, Finset.fold_singleton, IntOp.andi_eq_one, IntOp.andi_eq_one, IntOp.cmpi_sge, IntOp.cmpi_sle]
  exact ⟨⟨h0, h1⟩, rfl⟩

/-- Where the row number is one of the table's, the row is the one looked up. -/
theorem masked_apply (I : IVec S4x4096x1 32) (last : BitVec 32) (g : FVec Ideal S4x4096x256 .f32) (q : Fin 4) (s : Fin 4096) (k : Fin 256)
    (h0 : 0 ≤ (I (ix3 q s 0)).toInt) (h1 : (I (ix3 q s 0)).toInt ≤ last.toInt) : masked I last g (ix3 q s k) = g (ix3 q s k) := by
  have h := inTable_apply I last q s h0 h1
  pointwise [masked]
  rw [h]; rfl

/-- The dimension numbers of a lookup of whole rows, of a table of `N` rows of `B`, at an array of row numbers. -/
abbrev rowDims (N R C B : Nat) (wf : GatherDims.WF ⟨2, ![N, B]⟩ ⟨3, ![R, C, 1]⟩ ⟨3, ![R, C, B]⟩ [2] [0] [] [0] [] 2 ![1, B]) :
    GatherDims ⟨2, ![N, B]⟩ ⟨3, ![R, C, 1]⟩ ⟨3, ![R, C, B]⟩ where
  offsetDims := [2]
  collapsedSliceDims := [0]
  operandBatchingDims := []
  startIndicesBatchingDims := []
  startIndexMap := [0]
  indexVectorDim := 2
  sliceSizes := ![1, B]
  wf := wf

/-- A lookup of whole rows reads, where the row number is one of the table's, that row. -/
theorem gather_apply {α : Type} {N R C B : Nat} (hN : N < 2 ^ 31) (wf) (x : (⟨2, ![N, B]⟩ : Shape).Idx → α) (I : IVec ⟨3, ![R, C, 1]⟩ 32)
    (q : Fin R) (s : Fin C) (k : Fin B) (h : Fin N) (hI : I (ix3 q s 0) = BitVec.ofNat 32 h.val) :
    Host.gather (rowDims N R C B wf) x I (ix3 q s k) = x (ix2 h k) := by
  unfold Host.gather
  refine congrArg x (funext fun a => Fin.ext ?_)
  have none : ∀ a : Fin 2, a ∉ (rowDims N R C B wf).operandBatchingDims := fun a => List.not_mem_nil
  match a with
  | ⟨0, _⟩ =>
    have start : (rowDims N R C B wf).siIdx (ix3 q s k) ⟨List.idxOf (0 : Fin 2) (rowDims N R C B wf).startIndexMap,
        List.idxOf_lt_length_iff.2 (List.mem_singleton.2 rfl)⟩ = ix3 q s 0 := by
      funext b; refine Fin.ext ?_
      match b with
      | ⟨0, _⟩ => rfl
      | ⟨1, _⟩ => rfl
      | ⟨2, _⟩ => rfl
    show (rowDims N R C B wf).start (ix3 q s k) I 0 + (rowDims N R C B wf).batchCoord (ix3 q s k) 0 + (rowDims N R C B wf).offCoord (ix3 q s k) 0 = h.val
    rw [GatherDims.batchCoord_eq_zero _ _ _ (none 0),
      GatherDims.offCoord_eq_zero _ _ _ fun hk => ((GatherDims.mem_sKept _ _).1 hk).1 (List.mem_singleton.2 rfl)]
    unfold GatherDims.start
    rw [dif_pos (show (0 : Fin 2) ∈ (rowDims N R C B wf).startIndexMap from List.mem_singleton.2 rfl), start, hI,
      WordCmp.toInt_ofNat_of_lt (w := 32) (by have := h.isLt; omega)]
    show min (h.val : Int).toNat (N - 1) + 0 + 0 = h.val
    have := h.isLt
    omega
  | ⟨1, _⟩ =>
    show (rowDims N R C B wf).start (ix3 q s k) I 1 + (rowDims N R C B wf).batchCoord (ix3 q s k) 1 + (rowDims N R C B wf).offCoord (ix3 q s k) 1 = k.val
    have one : (1 : Fin 2) ∉ [(0 : Fin 2)] := by decide
    rw [GatherDims.batchCoord_eq_zero _ _ _ (none 1)]
    unfold GatherDims.start GatherDims.offCoord
    rw [dif_neg one, dif_pos ((GatherDims.mem_sKept _ _).2 ⟨one, none 1⟩), Nat.zero_add]
    rfl

/-- The reference's result at an index, from the looked-up rows: the product with the weights splits at column 256. -/
theorem assemble_apply (x : FVec Ideal S4096x4x1024 .f32) (hr dr : FVec Ideal S4x4096x256 .f32) (w : FVec Ideal S512x1024 .f32) (b : FVec Ideal S1024 .f32)
    (pe : FVec Ideal S8192x1x1024 .f32) (s : Fin 4096) (q : Fin 4) (d : Fin 1024) :
    assemble x hr dr w b pe (ix3 s q d) = x (ix3 s q d) + pe (ix3 ⟨s.val, by omega⟩ 0 d)
      + ((∑ k : Fin 256, hr (ix3 q s k) * w (ix2 ⟨k.val, by omega⟩ d)) + b (ix1 d) + (∑ k : Fin 256, dr (ix3 q s k) * w (ix2 ⟨256 + k.val, by omega⟩ d))) := by
  pointwise [assemble]
  exact (add_assoc _ _ _).symm.trans (congrArg _ (add_right_comm _ _ _))

/-- The hour rows the reference looks up. -/
theorem hourTake_apply (ht : FVec Ideal S24x256 .f32) (ts : IVec S4x4096 32) (q : Fin 4) (s : Fin 4096) (k : Fin 256) :
    hourTake ht ts (ix3 q s k) = ht (ix2 (Words.hourOf (ts (ix2 q s))) k) := by
  have lt := (Words.hourOf (ts (ix2 q s))).isLt
  have word := hourArr_apply ts q s
  have int : (hourArr ts (ix2 q s)).toInt = (Words.hourOf (ts (ix2 q s))).val := by rw [word, WordCmp.toInt_ofNat_of_lt (w := 32) (by omega)]
  have at0 := rowsOf_apply (hourArr ts) 24#32 q s (by omega)
  rw [hourTake, masked_apply _ _ _ q s k (by rw [at0]; omega) (by rw [at0, show (23#32).toInt = 23 from rfl]; omega)]
  exact gather_apply (by decide) _ ht _ q s k _ (at0.trans word)

/-- The day rows the reference looks up. -/
theorem dayTake_apply (dt : FVec Ideal S7x256 .f32) (ts : IVec S4x4096 32) (q : Fin 4) (s : Fin 4096) (k : Fin 256) :
    dayTake dt ts (ix3 q s k) = dt (ix2 (Words.dayOf (ts (ix2 q s))) k) := by
  have lt := (Words.dayOf (ts (ix2 q s))).isLt
  have word := dayArr_apply ts q s
  have int : (dayArr ts (ix2 q s)).toInt = (Words.dayOf (ts (ix2 q s))).val := by rw [word, WordCmp.toInt_ofNat_of_lt (w := 32) (by omega)]
  have at0 := rowsOf_apply (dayArr ts) 7#32 q s (by omega)
  rw [dayTake, masked_apply _ _ _ q s k (by rw [at0]; omega) (by rw [at0, show (6#32).toInt = 6 from rfl]; omega)]
  exact gather_apply (by decide) _ dt _ q s k _ (at0.trans word)

/-- The reference's result is the closed form, where the position table is the sinusoidal one. -/
theorem result (x : FVec Ideal S4096x4x1024 .f32) (ht : FVec Ideal S24x256 .f32) (dt : FVec Ideal S7x256 .f32) (w : FVec Ideal S512x1024 .f32)
    (b : FVec Ideal S1024 .f32) (pe : FVec Ideal S8192x1x1024 .f32) (ts : IVec S4x4096 32)
    (hp : ∀ (s : Fin 4096) (d : Fin 1024), pe (ix3 ⟨s.val, by omega⟩ 0 d) = Table.entry s.val d.val) :
    assemble x (hourTake ht ts) (dayTake dt ts) w b pe = fun i => Array.value x ht dt w b ts (i 0) (i 1) (i 2) := by
  funext i
  idx_vars i
  rw [assemble_apply, hp]
  simp only [hourTake_apply, dayTake_apply]
  rfl

end Cert.Proof.Ref

end
-- ==== Proof.lean ====
/-
  The claim. Every frame claim is the program's run weakened. The kernel and the reference end, on memories that agree
  on the arguments and hold the sinusoidal positions, with the same closed form (modules Array and Ref), so their
  results are equal.
-/
module

public import proofs.«01_k».proof.Defs
public import proofs.«01_k».proof.Proof.Gen.Kernel.Frame
public import proofs.«01_k».proof.Proof.Gen.KernelIdeal.Value
public import proofs.«01_k».proof.Proof.Gen.Pre_pe_is_sinusoidal
public import proofs.«01_k».proof.Proof.Gen.ReferenceIdeal.Run
public import Idealize.ShloMosaic.Adequacy
public import Idealize.ShloMosaic.Init
public import Idealize.ShloMosaic.Lib.Quiescent
public import proofs.«01_k».proof.Proof.Array
public import proofs.«01_k».proof.Proof.Ref

@[expose] public section

noncomputable section

namespace Cert.Proof

open Idealize.ShloMosaic Idealize.SL.Sem

/-- The reference leaves its arguments as they were and no counter raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the position table is the sinusoidal one. -/
theorem quiescent_ReferenceIdeal_pre : quiescent_ReferenceIdeal_pre_pe_is_sinusoidal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result and the reference's are equal over the extended reals, where the position table is the sinusoidal one. -/
theorem algebraic_KernelIdeal_ReferenceIdeal : algebraic_KernelIdeal_ReferenceIdeal_pre_pe_is_sinusoidal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5, h6⟩ := hagree c
  have hp := Table.pre_apply _ _ _ _ _ _ _ (hpre c)
  rw [(h c).1, Array.result m c hp, Ref.run_eq, Ref.result _ _ _ _ _ _ _ (h5 ▸ hp)]
  rw [h0, h1, h2, h3, h4, h6]
  rfl

/-- Every claim of the problem. -/
theorem claim : Cert.Claim := ⟨Cert.Kernel.Gen.facts, Cert.KernelIdeal.Gen.facts, Cert.ReferenceIdeal.Gen.facts, Cert.Pre_pe_is_sinusoidal.Gen.facts,
  fun m ρ _ => Cert.Kernel.Gen.frame m ρ, fun m ρ _ => Cert.KernelIdeal.Gen.frame m ρ, fun m ρ _ => Cert.KernelIdeal.Gen.frame m ρ, quiescent_ReferenceIdeal, quiescent_ReferenceIdeal_pre, (trivial : preserves_Kernel_KernelIdeal), algebraic_KernelIdeal_ReferenceIdeal⟩

end Cert.Proof

end
